-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x1024 : Shape := ⟨3, ![4, 4096, 1024]⟩
abbrev S4096x1024 : Shape := ⟨2, ![4096, 1024]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S4x512x1024, .f32⟩
  | .local _ .vmem, ⟨5, _⟩ => ⟨S4x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x4096x1024 : Shape := ⟨3, ![4, 4096, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S1x4096x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Spec.lean ====
/- What the kernel and its reference are both shown to compute: row `p` of the positional table added to row `p` of every
   sequence of the batch. -/
module

public import Idealize.ShloMosaic.PureOps
public import Idealize.ShloMosaic.Lib.ValueIdx

@[expose] public section

noncomputable section

namespace Cert.PosAdd

open Idealize.ShloMosaic
open Idealize.ShloMosaic.ValueIdx (ix2)

variable {F : FTy → Type} [FloatOps F]

/-- The batch of sequences: `x[b, p, d]`. -/
abbrev Seqs : Shape := ⟨3, ![4, 4096, 1024]⟩

/-- The positional table: `table[p, d]`. -/
abbrev Rows : Shape := ⟨2, ![4096, 1024]⟩

/-- The encoded batch: at `(b, p, d)` the sum `x[b, p, d] + table[p, d]`. -/
def encoded (x : FVec F Seqs .f32) (table : FVec F Rows .f32) : FVec F Seqs .f32 :=
  fun i => FloatOps.addf (x i) (table (ix2 (n0 := 4096) (n1 := 1024) (i 1) (i 2)))

end Cert.PosAdd

end
-- ==== Proof.KernelValue.lean ====
/- The value of the idealized kernel, for any reading of the floats: after its eight grid points the result array is
   `Cert.PosAdd.encoded` of the two argument arrays. -/
module

public import proofs.«01_k».proof.Proof.Spec
public import proofs.«01_k».proof.Proof.Gen.KernelIdeal.Value

@[expose] public section

noncomputable section

namespace Cert.KernelIdeal.PosAdd

open Cert.KernelIdeal Cert.KernelIdeal.Gen Cert.PosAdd
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The encoded batch of device `c`'s two argument arrays. -/
abbrev goal (c : Dev nD) : Buf (Elt F) ((c : Thread nD τ).loc main_v0) :=
  encoded (m ((c : Thread nD τ).loc main_arg0)) (m ((c : Thread nD τ).loc main_arg1))

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where the three windows stand at grid point `t`: all of them at positions `512 t` to `512 t + 511`, over the whole
    batch and the whole embedding. -/
theorem where_at : ∀ t : Fin grid0.N,
    (win0_0.index t 0 = 0 ∧ win0_0.index t 1 = t.val ∧ win0_0.index t 2 = 0)
    ∧ (win0_1.index t 0 = t.val ∧ win0_1.index t 1 = 0)
    ∧ (win0_2.index t 0 = 0 ∧ win0_2.index t 1 = t.val ∧ win0_2.index t 2 = 0) := by
  decide +kernel

/-- The block of sequences that point `t` loads, at an index: the array under the result block's index. -/
theorem seqs_at (c : Dev nD) (t : Fin cfg0.N) (y : S4x512x1024.Idx) :
    iblk m c 0 t y = m ((c : Thread nD τ).loc main_arg0) ((win0_2.rect t).emb y) := by
  obtain ⟨⟨a0, a1, a2⟩, -, ⟨o0, o1, o2⟩⟩ := where_at t
  show m ((c : Thread nD τ).loc main_arg0) ((win0_0.rect t).emb y) = _
  refine congrArg _ (funext fun a => Fin.ext ?_)
  rw [win0_0.rect_emb_val, win0_2.rect_emb_val]
  match a with
  | ⟨0, _⟩ => exact congrArg (· * _ + _) (a0.trans o0.symm)
  | ⟨1, _⟩ => exact congrArg (· * _ + _) (a1.trans o1.symm)
  | ⟨2, _⟩ => exact congrArg (· * _ + _) (a2.trans o2.symm)

/-- The block of table rows that point `t` loads, at an index: the table's row for the result block's position. -/
theorem rows_at (c : Dev nD) (t : Fin cfg0.N) (y : S4x512x1024.Idx) :
    iblk m c 1 t (Value.ix2_1 y)
      = m ((c : Thread nD τ).loc main_arg1)
          (ValueIdx.ix2 (n0 := 4096) (n1 := 1024) ((win0_2.rect t).emb y 1) ((win0_2.rect t).emb y 2)) := by
  obtain ⟨-, ⟨b0, b1⟩, ⟨o0, o1, o2⟩⟩ := where_at t
  show m ((c : Thread nD τ).loc main_arg1) ((win0_1.rect t).emb (Value.ix2_1 y)) = _
  refine congrArg _ (funext fun a => Fin.ext ?_)
  rw [win0_1.rect_emb_val]
  match a with
  | ⟨0, _⟩ =>
    refine Eq.trans ?_ (win0_2.rect_emb_val t y 1).symm
    exact congrArg (· * 512 + (y 1).val) (b0.trans o1.symm)
  | ⟨1, _⟩ =>
    refine Eq.trans ?_ (win0_2.rect_emb_val t y 2).symm
    exact congrArg (· * 1024 + (y 2).val) (b1.trans o2.symm)

/-- What the body leaves in the result's block: index by index the sum of the two loaded blocks, the table's row taken at
    the index's position. -/
theorem body_at (x : Vec F S4x512x1024 .f32) (r : Vec F S512x1024 .f32) (y : S4x512x1024.Idx) :
    out0_2 x r y = FloatOps.addf (x y) (r (Value.ix2_1 y)) := by
  unfold out0_2
  rw [View.ld_unit_zero zeros3, View.ld_unit_zero zeros2, Value.canon2_eq]
  have e : Value.ix2_0 y = y := funext fun a => by
    match a with
    | ⟨0, _⟩ => rfl
    | ⟨1, _⟩ => rfl
    | ⟨2, _⟩ => rfl
  show FloatOps.addf (x (Value.ix2_0 y)) _ = _
  rw [e]

/-- Point `t` writes back its block of the encoded batch. -/
theorem written (c : Dev nD) (t : Fin cfg0.N) :
    (dats m 0 c).flushed 2 t = ((cfg0.win 2).blk t).view.read (Elt F) (goal m c) := by
  rw [Value.flushed2]
  funext y
  show out0_2 (iblk m c 0 t) (iblk m c 1 t) y = goal m c ((win0_2.rect t).emb y)
  rw [body_at, seqs_at, rows_at]
  rfl

/-- The eight blocks cover the result: position `p` lies in the block of point `p / 512`. -/
theorem covered (i : S4x4096x1024.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1024 := (i 2).isLt
  have hN : cfg0.N = 8 := N_0
  refine ⟨⟨(i 1).val / 512, by omega⟩, flush0_2 _, ?_⟩
  generalize ht : (⟨(i 1).val / 512, _⟩ : Fin cfg0.N) = t
  have hv : t.val = (i 1).val / 512 := by rw [← ht]
  obtain ⟨-, -, ⟨o0, o1, o2⟩⟩ := where_at t
  show i ∈ ((View.whole main_v0).slice (win0_2.rect t)).set
  rw [View.set_slice_whole, Rect.mem_set_unit]
  intro a
  match a with
  | ⟨0, _⟩ =>
    show win0_2.index t 0 * 4 ≤ (i 0).val ∧ (i 0).val < win0_2.index t 0 * 4 + 4
    omega
  | ⟨1, _⟩ =>
    show win0_2.index t 1 * 512 ≤ (i 1).val ∧ (i 1).val < win0_2.index t 1 * 512 + 512
    omega
  | ⟨2, _⟩ =>
    show win0_2.index t 2 * 1024 ≤ (i 2).val ∧ (i 2).val < win0_2.index t 2 * 1024 + 1024
    omega

/-- So the result array ends as the encoded batch. -/
theorem result (c : Dev nD) : (dats m 0 c).arrAt 2 cfg0.N = goal m c :=
  (dats m 0 c).arrAt_eq_of_cover 2 (goal m c) (fun t _ => written m c t) covered

/-- The run: every execution ends with the result array at the encoded batch and the arguments unchanged. -/
theorem run : θ_run defs (onTc (τ := τ) (main (F := F))) ⟨m, fun _ => 0, ρ⟩ fun r => ∀ c : Dev nD,
      r.2.mem ((c : Thread nD τ).loc main_v0) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Value.run_blocks m ρ)

end Cert.KernelIdeal.PosAdd

end
-- ==== Proof.ReferenceValue.lean ====
/- The value of the reference: the lookup `jnp.take(table, arange(4096))` is the table itself, no position being negative or
   past the end, so the reference's result is `Cert.PosAdd.encoded` of its arguments. -/
module

public import proofs.«01_k».proof.Proof.Spec
public import proofs.«01_k».proof.Proof.Gen.ReferenceIdeal.Run
public import Idealize.ShloMosaic.Lib.Routing.Ops
public import Idealize.ShloMosaic.Lib.ReduceAll
public import Idealize.ShloMosaic.Lib.StableHlo.Predicate

@[expose] public section

noncomputable section

namespace Cert.ReferenceIdeal.PosAdd

open Cert.ReferenceIdeal Cert.ReferenceIdeal.Gen Cert.PosAdd
open Idealize.ShloMosaic Idealize.ShloMosaic.TcCoe Idealize.SL.Sem
open Idealize.ShloMosaic.ValueIdx (ix1 ix2)

variable {F : FTy → Type} [FloatOps F]

/-- The wrapped positions: a negative position counts from the table's end. -/
abbrev wrapped : IVec S4096 32 :=
  select (cmpi .slt (iotaInDim S4096 32 0) (broadcastInDim S4096 ![] bcast_S_S4096 (constantI S_ 32 0#32)))
    (addi (iotaInDim S4096 32 0) (broadcastInDim S4096 ![] bcast_S_S4096 (constantI S_ 32 4096#32)))
    (iotaInDim S4096 32 0)

/-- The wrapped positions as a column of start indices. -/
abbrev starts : IVec S4096x1 32 := broadcastInDim S4096x1 ![0] bcast_S4096_S4096x1_0 wrapped

/-- Which start indices lie inside the table. -/
abbrev inside : IVec S4096x1 1 :=
  andi (cmpi .sge starts (broadcastInDim S4096x1 ![] bcast_S_S4096x1 (constantI S_ 32 0#32)))
    (cmpi .sle starts (broadcastInDim S4096x1 ![0, 1] bcast_S1x1_S4096x1_0_1
      (broadcastInDim S1x1 ![1] bcast_S1_S1x1_1 (constantI S1 32 4095#32))))

/-- The lookup as the reference makes it: rows gathered at the start indices, a not-a-number where one is outside. -/
abbrev taken (table : FVec F S4096x1024 .f32) : FVec F S4096x1024 .f32 :=
  select (broadcastInDim S4096x1024 ![0] bcast_S4096_S4096x1024_0
      (Host.reduce IntOp.andi inside (constantI S_ 1 1#1) reducesTo_S4096x1_S4096_d1 h_S_))
    (Host.gather gather_S4096x1024_S4096x1_S4096x1024_1_0_n_n_0_1_11024 table starts)
    (broadcastInDim S4096x1024 ![] bcast_S_S4096x1024 (constant S_ .f32 0x7FC00000#32))

/-- No position is negative: the wrap changes none. -/
theorem wrapped_at (p : Fin 4096) : wrapped (ix1 p) = BitVec.ofNat 32 p.val := by
  show Scalar.select (IntOp.cmpi .slt (BitVec.ofNat 32 p.val) 0#32) (BitVec.ofNat 32 p.val + 4096#32) (BitVec.ofNat 32 p.val) = _
  have h : ¬ IntOp.cmpi .slt (BitVec.ofNat 32 p.val) 0#32 = 1#1 := by
    exact fun e => Nat.not_lt_zero _ ((StableHlo.Predicate.slt_ofNat_iff p.val 0 (by omega) (by omega)).mp e)
  rw [ValueIdx.eq_zero_of_ne_one h, ValueIdx.select_zero]

/-- The start index of position `p` is `p`. -/
theorem starts_at (k : S4096x1.Idx) : starts k = BitVec.ofNat 32 (k 0).val := by
  refine (broadcastInDim_apply _ _ _ k (ix1 (n := 4096) (k 0)) fun a => ?_).trans (wrapped_at (k 0))
  match a with
  | ⟨0, _⟩ => rfl

/-- Every start index is inside the table. -/
theorem inside_at (k : S4096x1.Idx) : inside k = 1#1 := by
  have hk : (k 0).val < 4096 := (k 0).isLt
  show IntOp.andi (IntOp.cmpi .sge (starts k) 0#32) (IntOp.cmpi .sle (starts k) 4095#32) = 1#1
  rw [starts_at]
  have h1 : IntOp.cmpi .sge (BitVec.ofNat 32 (k 0).val) 0#32 = 1#1 :=
    (StableHlo.Predicate.sge_iff_toNat (by rw [BitVec.toNat_ofNat]; omega) (by decide)).mpr (Nat.zero_le _)
  have h2 : IntOp.cmpi .sle (BitVec.ofNat 32 (k 0).val) 4095#32 = 1#1 :=
    (StableHlo.Predicate.sle_ofNat_iff _ 4095 (by omega) (by omega)).mpr (by omega)
  rw [h1, h2]
  rfl

/-- The lookup at all positions in order is the table. -/
theorem taken_eq (table : FVec F S4096x1024 .f32) : taken table = table := by
  funext j
  have hmask : (broadcastInDim S4096x1024 ![0] bcast_S4096_S4096x1024_0
      (Host.reduce IntOp.andi inside (constantI S_ 1 1#1) reducesTo_S4096x1_S4096_d1 h_S_)) j = 1#1 := by
    refine (broadcastInDim_apply _ _ _ j (ix1 (n := 4096) (j 0)) fun a => ?_).trans
      (Host.reduce_andi_one _ _ _ _ _ rfl inside_at)
    match a with
    | ⟨0, _⟩ => rfl
  have hrow : Host.gather gather_S4096x1024_S4096x1_S4096x1024_1_0_n_n_0_1_11024 table starts j = table j := by
    rw [ValueIdx.eq_ix2 j]
    exact Routing.gather_row _ rfl rfl rfl rfl rfl table starts (j 0) (j 1) (j 0) (starts_at _) (by decide)
  show Scalar.select _ _ _ = _
  rw [hmask, hrow, ValueIdx.select_one]

/-- The reference's result as a term of its arguments is the encoded batch. -/
theorem value_eq (x : FVec F S4x4096x1024 .f32) (table : FVec F S4096x1024 .f32) :
    addf x (broadcastInDim S4x4096x1024 ![0, 1, 2] bcast_S1x4096x1024_S4x4096x1024_0_1_2
      (broadcastInDim S1x4096x1024 ![1, 2] bcast_S4096x1024_S1x4096x1024_1_2 (taken table))) = encoded x table := by
  rw [taken_eq]
  funext i
  refine congrArg (FloatOps.addf (x i)) ?_
  refine (broadcastInDim_apply _ _ _ i (ValueIdx.ix3 (n0 := 1) (n1 := 4096) (n2 := 1024) 0 (i 1) (i 2)) fun a => ?_).trans
    (broadcastInDim_apply _ _ _ _ (ix2 (n0 := 4096) (n1 := 1024) (i 1) (i 2)) fun a => ?_)
  · match a with
    | ⟨0, _⟩ => rfl
    | ⟨1, _⟩ => rfl
    | ⟨2, _⟩ => rfl
  · match a with
    | ⟨0, _⟩ => rfl
    | ⟨1, _⟩ => rfl

/-- The run: every execution ends with the result array at the encoded batch and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4)
        = encoded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (value_eq _ _), (h c).2⟩) (Value.run m ρ)

end Cert.ReferenceIdeal.PosAdd

end
-- ==== Proof.WordValue.lean ====
/- The value of the two programs as they run on float words. Each is the text of its idealization, so what the array ends
   with is the same function `Cert.PosAdd.encoded`, whatever the words' addition is. -/
module

public import proofs.«01_k».proof.Proof.KernelValue
public import proofs.«01_k».proof.Proof.ReferenceValue
public import proofs.«01_k».proof.Proof.Gen.Kernel.Value
public import proofs.«01_k».proof.Proof.Gen.Reference.Run

@[expose] public section

noncomputable section

open Cert.PosAdd
open Idealize.ShloMosaic Idealize.ShloMosaic.TcCoe Idealize.SL.Sem

namespace Cert.Kernel.PosAdd

open Cert.Kernel Cert.Kernel.Gen

variable {F : FTy → Type} [FloatOps F]
variable (m : (ℓ : Loc nD τ sig) → Buf (Elt F) ℓ) (ρ : Dev nD → PrngReg)

/-- The encoded batch of device `c`'s two argument arrays. -/
abbrev goal (c : Dev nD) : Buf (Elt F) ((c : Thread nD τ).loc main_v0) :=
  encoded (m ((c : Thread nD τ).loc main_arg0)) (m ((c : Thread nD τ).loc main_arg1))

/-- The kernel's result array ends as the encoded batch. -/
theorem result (c : Dev nD) : (dats m 0 c).arrAt 2 cfg0.N = goal m c :=
  Cert.KernelIdeal.PosAdd.result m c

/-- The kernel's run: the result array at the encoded batch, the arguments unchanged. -/
theorem run : θ_run defs (onTc (τ := τ) (main (F := F))) ⟨m, fun _ => 0, ρ⟩ fun r => ∀ c : Dev nD,
      r.2.mem ((c : Thread nD τ).loc main_v0) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Value.run_blocks m ρ)

end Cert.Kernel.PosAdd

namespace Cert.Reference.PosAdd

open Cert.Reference Cert.Reference.Gen

variable {F : FTy → Type} [FloatOps F]

/-- The reference's run: the result array at the encoded batch, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4)
        = encoded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans (Cert.ReferenceIdeal.PosAdd.value_eq _ _), (h c).2⟩) (Value.run m ρ)

end Cert.Reference.PosAdd

end
-- ==== Proof.lean ====
/- The certificate: the kernel adds a positional table to a batch of sequences, and so does the reference. Here the claims
   are put together; `Proof/Spec.lean` states the function, `Proof/KernelValue.lean` and `Proof/ReferenceValue.lean` show that
   the two programs compute it, and `Proof/WordValue.lean` restates both for float words. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.KernelIdeal.Value
public import proofs.«01_k».proof.Proof.Gen.Kernel.Value
public import proofs.«01_k».proof.Proof.Gen.ReferenceIdeal.Run
public import proofs.«01_k».proof.Proof.Gen.Reference.Run
public import proofs.«01_k».proof.Proof.WordValue
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame, from its run: it names no semaphore. -/
theorem frame_reference : Cert.quiescent_Reference := fun m ρ _ =>
  (θ_run Cert.Reference.defs _ _).mono
    (fun r h => ⟨fun c => (h c).2, sem_eq_zero_of_no_sems (by decide) r.2⟩)
    (Cert.Reference.PosAdd.run (F := Bits) m ρ)

/-- The idealized reference's frame, likewise. -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.PosAdd.run (F := Ideal) m ρ)

/-- Over the extended reals both programs end with the encoded batch of arguments that agree. -/
theorem algebraic : Cert.algebraic_KernelIdeal_ReferenceIdeal := by
  intro m ρ m' ρ' _ agree
  refine ⟨Cert.KernelIdeal.PosAdd.goal m, Cert.KernelIdeal.PosAdd.run m ρ, ?_⟩
  refine (θ_run Cert.ReferenceIdeal.defs _ _).mono (fun _ h c => ⟨(h c).1.trans ?_, (h c).2⟩)
    (Cert.ReferenceIdeal.PosAdd.run m' ρ')
  exact congrArg₂ Cert.PosAdd.encoded (agree c).1 (agree c).2

/-- On float words both programs end with the same words: the same sums of the same pairs, whatever the words' addition. -/
theorem bitexact : Cert.bitexact_Kernel_Reference := by
  intro m ρ m' ρ' _ agree
  refine ⟨Cert.Kernel.PosAdd.goal m, Cert.Kernel.PosAdd.run m ρ, ?_⟩
  refine (θ_run Cert.Reference.defs _ _).mono (fun _ h c => ⟨(h c).1.trans ?_, (h c).2⟩)
    (Cert.Reference.PosAdd.run m' ρ')
  exact congrArg₂ Cert.PosAdd.encoded (agree c).1 (agree c).2

/-- All the claims: the four frames, the idealization, the equality over the extended reals and the equality of words. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    frame_reference_ideal, frame_reference, trivial, algebraic, bitexact⟩

end Cert.Proof

end
